-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x2304 : Shape := ⟨3, ![8, 4096, 2304]⟩
abbrev S8x4096x1 : Shape := ⟨3, ![8, 4096, 1]⟩
abbrev S2304x3584 : Shape := ⟨2, ![2304, 3584]⟩
abbrev S3584 : Shape := ⟨1, ![3584]⟩
abbrev S32768x2304 : Shape := ⟨2, ![32768, 2304]⟩
abbrev S128x2x128 : Shape := ⟨3, ![128, 2, 128]⟩
abbrev S1x3584 : Shape := ⟨2, ![1, 3584]⟩
abbrev S32768x3584 : Shape := ⟨2, ![32768, 3584]⟩
abbrev S256x2304 : Shape := ⟨2, ![256, 2304]⟩
abbrev S1x2x128 : Shape := ⟨3, ![1, 2, 128]⟩
abbrev S256x3584 : Shape := ⟨2, ![256, 3584]⟩
abbrev S1x1x128 : Shape := ⟨3, ![1, 1, 128]⟩
abbrev S1x128 : Shape := ⟨2, ![1, 128]⟩
abbrev S128x128 : Shape := ⟨2, ![128, 128]⟩
abbrev S256x128 : Shape := ⟨2, ![256, 128]⟩
abbrev S256x256 : Shape := ⟨2, ![256, 256]⟩
abbrev S2304x256 : Shape := ⟨2, ![2304, 256]⟩
abbrev S1x256 : Shape := ⟨2, ![1, 256]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S8x4096x2304, .fp8e4m3⟩
  | .hbm, ⟨1, _⟩ => ⟨S8x4096x1, .f32⟩
  | .hbm, ⟨2, _⟩ => ⟨S2304x3584, .fp8e4m3⟩
  | .hbm, ⟨3, _⟩ => ⟨S3584, .f32⟩
  | .hbm, ⟨4, _⟩ => ⟨S2304x3584, .fp8e4m3⟩
  | .hbm, ⟨5, _⟩ => ⟨S3584, .f32⟩
  | .hbm, ⟨6, _⟩ => ⟨S32768x2304, .fp8e4m3⟩
  | .hbm, ⟨7, _⟩ => ⟨S128x2x128, .f32⟩
  | .hbm, ⟨8, _⟩ => ⟨S1x3584, .f32⟩
  | .hbm, ⟨9, _⟩ => ⟨S1x3584, .f32⟩
  | .hbm, ⟨10, _⟩ => ⟨S32768x3584, .fp8e4m3⟩
  | .hbm, ⟨11, _⟩ => ⟨S128x2x128, .f32⟩
  | .local _ .vmem, ⟨0, _⟩ => ⟨S256x2304, .fp8e4m3⟩
  | .local _ .vmem, ⟨1, _⟩ => ⟨S256x2304, .fp8e4m3⟩
  | .local _ .vmem, ⟨2, _⟩ => ⟨S1x2x128, .f32⟩
  | .local _ .vmem, ⟨3, _⟩ => ⟨S1x2x128, .f32⟩
  | .local _ .vmem, ⟨4, _⟩ => ⟨S2304x3584, .fp8e4m3⟩
  | .local _ .vmem, ⟨5, _⟩ => ⟨S1x3584, .f32⟩
  | .local _ .vmem, ⟨6, _⟩ => ⟨S2304x3584, .fp8e4m3⟩
  | .local _ .vmem, ⟨7, _⟩ => ⟨S1x3584, .f32⟩
  | .local _ .vmem, ⟨8, _⟩ => ⟨S256x3584, .fp8e4m3⟩
  | .local _ .vmem, ⟨9, _⟩ => ⟨S256x3584, .fp8e4m3⟩
  | .local _ .vmem, ⟨10, _⟩ => ⟨S1x2x128, .f32⟩
  | .local _ .vmem, ⟨11, _⟩ => ⟨S1x2x128, .f32⟩
  | .local _ .vmem, ⟨12, _⟩ => ⟨S256x3584, .f32⟩
  | _, _ => ⟨S8x4096x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2304 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x4096x2304 : Shape := ⟨3, ![8, 4096, 2304]⟩
abbrev S8x4096x1 : Shape := ⟨3, ![8, 4096, 1]⟩
abbrev S2304x3584 : Shape := ⟨2, ![2304, 3584]⟩
abbrev S3584 : Shape := ⟨1, ![3584]⟩
abbrev S32768x2304 : Shape := ⟨2, ![32768, 2304]⟩
abbrev S32768x1 : Shape := ⟨2, ![32768, 1]⟩
abbrev S1x3584 : Shape := ⟨2, ![1, 3584]⟩
abbrev S32768x3584 : Shape := ⟨2, ![32768, 3584]⟩
abbrev S128x2x128 : Shape := ⟨3, ![128, 2, 128]⟩
abbrev S32768 : Shape := ⟨1, ![32768]⟩

abbrev nBuf : Space → Nat
  | .hbm => 12
  | .vmem => 8
  | .smem => 0
  | _ => 0

abbrev bufTy : (tb : Table) → Fin (tcTables nBuf tb) → BufTy
  | .hbm, ⟨0, _⟩ => ⟨S8x4096x2304, .fp8e4m3⟩
  | .hbm, ⟨1, _⟩ => ⟨S8x4096x1, .f32⟩
  | .hbm, ⟨2, _⟩ => ⟨S2304x3584, .fp8e4m3⟩
  | .hbm, ⟨3, _⟩ => ⟨S3584, .f32⟩
  | .hbm, ⟨4, _⟩ => ⟨S2304x3584, .fp8e4m3⟩
  | .hbm, ⟨5, _⟩ => ⟨S3584, .f32⟩
  | .hbm, ⟨6, _⟩ => ⟨S32768x2304, .fp8e4m3⟩
  | .hbm, ⟨7, _⟩ => ⟨S32768x1, .f32⟩
  | .hbm, ⟨8, _⟩ => ⟨S1x3584, .f32⟩
  | .hbm, ⟨9, _⟩ => ⟨S1x3584, .f32⟩
  | .hbm, ⟨10, _⟩ => ⟨S32768x3584, .fp8e4m3⟩
  | .hbm, ⟨11, _⟩ => ⟨S128x2x128, .f32⟩
  | .local _ .vmem, ⟨0, _⟩ => ⟨S32768x2304, .fp8e4m3⟩
  | .local _ .vmem, ⟨1, _⟩ => ⟨S32768x1, .f32⟩
  | .local _ .vmem, ⟨2, _⟩ => ⟨S2304x3584, .fp8e4m3⟩
  | .local _ .vmem, ⟨3, _⟩ => ⟨S1x3584, .f32⟩
  | .local _ .vmem, ⟨4, _⟩ => ⟨S2304x3584, .fp8e4m3⟩
  | .local _ .vmem, ⟨5, _⟩ => ⟨S1x3584, .f32⟩
  | .local _ .vmem, ⟨6, _⟩ => ⟨S32768x3584, .fp8e4m3⟩
  | .local _ .vmem, ⟨7, _⟩ => ⟨S128x2x128, .f32⟩
  | _, _ => ⟨S8x4096x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Scale.lean ====
module

public import Idealize.ShloMosaic.Lib.Pointwise

/-!
  The arithmetic of one row's power-of-two scale, over the extended reals: a search of eight
  comparisons against powers of two on one side, the floor of a base-two logarithm on the other.
-/

@[expose] public section

set_option maxRecDepth 16384

noncomputable section

open Idealize.ShloMosaic

namespace Cert.Scale

/-- The number that the word `n << 23` denotes in `f32`: the power of two of biased exponent `n`. -/
def pw (n : BitVec 32) : EReal := Ideal.ofBits .f32 (IntOp.shli .vector n 23#32)

/-- One comparison of the search: the field, with `bit` added unless that power of two is above `a`. -/
def step (a : EReal) (field bit : BitVec 32) : BitVec 32 :=
  Scalar.select (Ideal.cmp .olt a (pw (IntOp.addi field bit))) field (IntOp.addi field bit)

/-- The eight comparisons, from the highest bit of the field to the lowest. -/
def search (a : EReal) : BitVec 32 :=
  step a (step a (step a (step a (step a (step a (step a (step a 0#32 128#32) 64#32) 32#32) 16#32) 8#32) 4#32) 2#32) 1#32

/-- The exponent a field stands for: 0 for the fields 0 and 255, else the field less 126. -/
def expo (n : BitVec 32) : BitVec 32 :=
  Scalar.select (IntOp.ori (IntOp.cmpi .eq n 0#32) (IntOp.cmpi .eq n 255#32)) 0#32 (IntOp.subi n 126#32)

/-- A field brought between 0 and 255. -/
def clip (n : BitVec 32) : BitVec 32 :=
  Scalar.select (IntOp.cmpi .sle n 0#32) 0#32 (Scalar.select (IntOp.cmpi .sge n 255#32) 255#32 n)

/-- The kernel's scale of a row whose greatest absolute value, times the word for 1/448, is `q`. -/
def kScale (q : EReal) : EReal := pw (clip (IntOp.addi 127#32 (expo (search (max q (-q))))))

/-- The kernel's reciprocal scale of the same row. -/
def kInv (q : EReal) : EReal := pw (clip (IntOp.subi 127#32 (expo (search (max q (-q))))))

/-- The reference's exponent of `q`, the greatest absolute value `a` times the word for 1/448. -/
def rExp (a q : EReal) : EReal :=
  Scalar.select (Ideal.cmp .oeq a (Ideal.ofBits .f32 0x00000000#32)) (Ideal.ofBits .f32 0x00000000#32)
    (Scalar.select (IntOp.ori (Ideal.cmp .olt q (Ideal.ofBits .f32 0x00800000#32)) (Ideal.cmp .oeq q (Ideal.ofBits .f32 0x7F800000#32)))
      (Ideal.ofBits .f32 0x00000000#32)
      (Ideal.liftRound Int.floor (Ideal.div (Ideal.log q) (Ideal.log (Ideal.ofBits .f32 0x40000000#32))) + Ideal.ofBits .f32 0x3F800000#32))

/-- The reference's power of two of an exponent: infinite above 127, 0 below -126. -/
def rLdexp (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32) (Ideal.exp2 e))

/-! ## The words -/

/-- The three parts of the word `n << 23`, for every `n` up to 255: exponent `n`, no fraction, no sign. -/
theorem fields : ∀ n : Fin 256,
    ((IntOp.shli .vector (BitVec.ofNat 32 n) 23#32).extractLsb' 23 8).toNat = n ∧
    ((IntOp.shli .vector (BitVec.ofNat 32 n) 23#32).extractLsb' 0 23).toNat = 0 ∧
    ((IntOp.shli .vector (BitVec.ofNat 32 n) 23#32).extractLsb' 31 1 == 1#1) = false := by decide +kernel

/-- A word of exponent field `n` from 1 to 254 with no fraction and no sign is the power of two of the field less 127. -/
theorem ieee_mid (b : BitVec 32) (n : ℕ) (h0 : 1 ≤ n) (h1 : n ≤ 254) (e1 : (b.extractLsb' 23 8).toNat = n)
    (e2 : (b.extractLsb' 0 23).toNat = 0) (e3 : (b.extractLsb' 31 1 == 1#1) = false) :
    Ideal.ofBits .f32 b = (((2 : ℝ) ^ ((n : ℤ) - 127) : ℝ) : EReal) := by
  have hz : ((n : ℤ) - (2 ^ (8 - 1) - 1) - (23 : ℕ)) = ((n : ℤ) - 127) - 23 := by norm_num
  have hr : (1 : ℝ) * ((2 ^ 23 + 0 : ℕ) : ℝ) * (2 : ℝ) ^ (((n : ℤ) - 127) - 23) = (2 : ℝ) ^ ((n : ℤ) - 127) := by
    rw [zpow_sub₀ (by norm_num : (2 : ℝ) ≠ 0)]
    norm_num
    ring
  simp only [Ideal.ofBits, Ideal.ieee, Nat.reduceAdd, e1, e2, e3]
  rw [if_neg (by omega), if_neg (by omega), hz, ← hr]
  simp

/-- A word of exponent field 0 with no fraction and no sign is zero. -/
theorem ieee_zero (b : BitVec 32) (e1 : (b.extractLsb' 23 8).toNat = 0) (e2 : (b.extractLsb' 0 23).toNat = 0) :
    Ideal.ofBits .f32 b = 0 := by
  simp [Ideal.ofBits, Ideal.ieee, e1, e2]

/-- A word of exponent field 255 with no fraction and no sign is infinity. -/
theorem ieee_top (b : BitVec 32) (e1 : (b.extractLsb' 23 8).toNat = 255) (e2 : (b.extractLsb' 0 23).toNat = 0)
    (e3 : (b.extractLsb' 31 1 == 1#1) = false) : Ideal.ofBits .f32 b = ⊤ := by
  simp [Ideal.ofBits, Ideal.ieee, e1, e2, e3]

/-- The word of field 0 is zero. -/
theorem pw_zero : pw (BitVec.ofNat 32 0) = 0 :=
  ieee_zero _ (fields ⟨0, by omega⟩).1 (fields ⟨0, by omega⟩).2.1

/-- The word of field 255 is infinity. -/
theorem pw_top : pw (BitVec.ofNat 32 255) = ⊤ :=
  ieee_top _ (fields ⟨255, by omega⟩).1 (fields ⟨255, by omega⟩).2.1 (fields ⟨255, by omega⟩).2.2

/-- The word of a field from 1 to 254 is the power of two of the field less 127. -/
theorem pw_mid (n : ℕ) (h0 : 1 ≤ n) (h1 : n ≤ 254) : pw (BitVec.ofNat 32 n) = (((2 : ℝ) ^ ((n : ℤ) - 127) : ℝ) : EReal) :=
  ieee_mid _ n h0 h1 (fields ⟨n, by omega⟩).1 (fields ⟨n, by omega⟩).2.1 (fields ⟨n, by omega⟩).2.2

/-- One comparison keeps the bracket: the power at the field is at most `a`, the power at the field plus the width above. -/
theorem step_spec (a : EReal) (f b : ℕ) (h : f + 2 * b ≤ 256) (hlo : pw (BitVec.ofNat 32 f) ≤ a)
    (hhi : f + 2 * b = 256 ∨ a < pw (BitVec.ofNat 32 (f + 2 * b))) :
    ∃ f' : ℕ, step a (BitVec.ofNat 32 f) (BitVec.ofNat 32 b) = BitVec.ofNat 32 f' ∧ f' + b ≤ 256 ∧ pw (BitVec.ofNat 32 f') ≤ a ∧
      (f' + b = 256 ∨ a < pw (BitVec.ofNat 32 (f' + b))) := by
  have hadd : IntOp.addi (BitVec.ofNat 32 f) (BitVec.ofNat 32 b) = BitVec.ofNat 32 (f + b) := by
    simp [IntOp.addi, BitVec.ofNat_add]
  unfold step
  rw [hadd]
  by_cases hc : a < pw (BitVec.ofNat 32 (f + b))
  · exact ⟨f, by simp [Ideal.cmp, Scalar.select, hc], by omega, hlo, Or.inr hc⟩
  · refine ⟨f + b, by simp [Ideal.cmp, Scalar.select, hc], by omega, not_lt.mp hc, ?_⟩
    rw [show f + b + b = f + 2 * b by ring]
    exact hhi

/-- The search finds the field whose power of two is the greatest at most `a`. -/
theorem search_spec (a : EReal) (ha : 0 ≤ a) :
    ∃ n : ℕ, search a = BitVec.ofNat 32 n ∧ n ≤ 255 ∧ pw (BitVec.ofNat 32 n) ≤ a ∧ (n = 255 ∨ a < pw (BitVec.ofNat 32 (n + 1))) := by
  unfold search
  obtain ⟨f1, e1, b1, l1, u1⟩ := step_spec a 0 128 (by norm_num) (by rw [pw_zero]; exact ha) (Or.inl rfl)
  rw [show (0#32) = BitVec.ofNat 32 0 from rfl, e1]
  obtain ⟨f2, e2, b2, l2, u2⟩ := step_spec a f1 64 b1 l1 u1
  rw [e2]
  obtain ⟨f3, e3, b3, l3, u3⟩ := step_spec a f2 32 b2 l2 u2
  rw [e3]
  obtain ⟨f4, e4, b4, l4, u4⟩ := step_spec a f3 16 b3 l3 u3
  rw [e4]
  obtain ⟨f5, e5, b5, l5, u5⟩ := step_spec a f4 8 b4 l4 u4
  rw [e5]
  obtain ⟨f6, e6, b6, l6, u6⟩ := step_spec a f5 4 b5 l5 u5
  rw [e6]
  obtain ⟨f7, e7, b7, l7, u7⟩ := step_spec a f6 2 b6 l6 u6
  rw [e7]
  obtain ⟨f8, e8, b8, l8, u8⟩ := step_spec a f7 1 b7 l7 u7
  exact ⟨f8, e8, by omega, l8, u8.imp (by omega) id⟩

/-- For every field `n`, the fields of the scale and of its reciprocal. -/
theorem clip_fields : ∀ n : Fin 256,
    clip (IntOp.addi 127#32 (expo (BitVec.ofNat 32 n))) =
      BitVec.ofNat 32 (if n.val = 0 ∨ n.val = 255 then 127 else n.val + 1) ∧
    clip (IntOp.subi 127#32 (expo (BitVec.ofNat 32 n))) =
      BitVec.ofNat 32 (if n.val = 0 ∨ n.val = 255 then 127 else 253 - n.val) := by decide +kernel

/-! ## The constants -/

/-- The `f32` word of 2^-126. -/
theorem c_min : Ideal.ofBits .f32 0x00800000#32 = (((2 : ℝ) ^ (-126 : ℤ) : ℝ) : EReal) :=
  ieee_mid _ 1 le_rfl (by norm_num) (by decide) (by decide) (by decide)

/-- The `f32` word of 2. -/
theorem c_two : Ideal.ofBits .f32 0x40000000#32 = ((2 : ℝ) : EReal) := by
  rw [ieee_mid 0x40000000#32 128 (by norm_num) (by norm_num) (by decide) (by decide) (by decide)]
  norm_num

/-- The `f32` word of infinity. -/
theorem c_inf : Ideal.ofBits .f32 0x7F800000#32 = ⊤ := ieee_top _ (by decide) (by decide) (by decide)

/-- The `f32` word of 127. -/
theorem c_hi : Ideal.ofBits .f32 0x42FE0000#32 = ((127 : ℝ) : EReal) := by
  simp [Ideal.ofBits, Ideal.ieee]
  rw [← EReal.coe_mul]
  norm_num

/-- The `f32` word of -126. -/
theorem c_lo : Ideal.ofBits .f32 0xC2FC0000#32 = ((-126 : ℝ) : EReal) := by
  simp [Ideal.ofBits, Ideal.ieee]
  rw [← EReal.coe_mul]
  norm_num

/-- The `f32` word for 1/448 is a positive real. -/
theorem c_inv : ∃ r : ℝ, 0 < r ∧ Ideal.ofBits .f32 0x3B124925#32 = (r : EReal) := by
  refine ⟨_, ?_, by simp [Ideal.ofBits, Ideal.ieee]; rfl⟩
  positivity

/-! ## The reference's power of two at an integer exponent -/

/-- At an integer: infinite above 127, 0 below -126, else the power. -/
theorem rLdexp_int (k : ℤ) :
    rLdexp (((k : ℝ)) : EReal) = if 127 < k then ⊤ else if k < -126 then 0 else (((2 : ℝ) ^ k : ℝ) : EReal) := by
  unfold rLdexp
  rw [c_hi, c_inf, c_lo, Ideal.ofBits_zero_f32]
  have h1 : (((127 : ℝ)) : EReal) < ((k : ℝ) : EReal) ↔ 127 < k := by
    rw [EReal.coe_lt_coe_iff]; exact_mod_cast Iff.rfl
  have h2 : ((k : ℝ) : EReal) < (((-126 : ℝ)) : EReal) ↔ k < -126 := by
    rw [EReal.coe_lt_coe_iff]; exact_mod_cast Iff.rfl
  have h3 : Ideal.exp2 ((k : ℝ) : EReal) = (((2 : ℝ) ^ k : ℝ) : EReal) := by
    show ((Real.rpow 2 (k : ℝ) : ℝ) : EReal) = _
    rw [show Real.rpow 2 (k : ℝ) = (2 : ℝ) ^ (k : ℝ) from rfl, Real.rpow_intCast]
  simp only [Ideal.cmp, h1, h2, h3, Scalar.select]
  by_cases a : 127 < k <;> by_cases b : k < -126 <;> simp [a, b]

/-- The floor of the quotient of logarithms, at a positive real: the integer logarithm. -/
theorem floor_log (r : ℝ) (k : ℤ) (h0 : (2 : ℝ) ^ k ≤ r) (h1 : r < (2 : ℝ) ^ (k + 1)) :
    Ideal.liftRound Int.floor (Ideal.div (Ideal.log (r : EReal)) (Ideal.log ((2 : ℝ) : EReal))) = ((k : ℝ) : EReal) := by
  have hp : (0 : ℝ) < r := lt_of_lt_of_le (by positivity) h0
  have hl2 : 0 < Real.log 2 := Real.log_pos (by norm_num)
  have e1 : Ideal.log (r : EReal) = (Real.log r : EReal) := by
    show (if r ≤ 0 then (⊥ : EReal) else (Real.log r : EReal)) = _
    rw [if_neg (not_le.mpr hp)]
  have e2 : Ideal.log ((2 : ℝ) : EReal) = (Real.log 2 : EReal) := by
    show (if (2 : ℝ) ≤ 0 then (⊥ : EReal) else (Real.log 2 : EReal)) = _
    rw [if_neg (by norm_num)]
  have e3 : Ideal.div (Real.log r : EReal) (Real.log 2 : EReal) = ((Real.log r / Real.log 2 : ℝ) : EReal) := by
    unfold Ideal.div
    rw [if_neg (by exact_mod_cast hl2.ne'), ← EReal.coe_inv, ← EReal.coe_mul, div_eq_mul_inv]
  rw [e1, e2, e3]
  show (((Int.floor (Real.log r / Real.log 2) : ℤ) : ℝ) : EReal) = _
  have : Int.floor (Real.log r / Real.log 2) = k := by
    rw [Int.floor_eq_iff]
    constructor
    · rw [le_div_iff₀ hl2, ← Real.log_zpow]
      exact Real.log_le_log (by positivity) h0
    · rw [div_lt_iff₀ hl2]
      have := Real.log_lt_log hp h1
      rw [Real.log_zpow] at this
      push_cast at this
      exact this
  rw [this]

/-! ## The two scales agree -/

/-- The reference's exponent of a row, for each field the search can find: 0 at the fields 0 and 255, an integer that is the
    field less 126 below 254, and at least 128 at 254. -/
theorem rExp_spec (a q : EReal) (ha : a = 0 → q = 0) (n : ℕ) (hn : n ≤ 255) (hlo : pw (BitVec.ofNat 32 n) ≤ q)
    (hhi : n = 255 ∨ q < pw (BitVec.ofNat 32 (n + 1))) (hq : 0 ≤ q) :
    ∃ k : ℤ, rExp a q = ((k : ℝ) : EReal) ∧ (n = 0 ∨ n = 255 → k = 0) ∧ (1 ≤ n → n ≤ 253 → k = n - 126) ∧ (n = 254 → 128 ≤ k) := by
  by_cases h0 : n = 0
  · subst h0
    refine ⟨0, ?_, fun _ => rfl, by omega, by omega⟩
    have hlt : q < (((2 : ℝ) ^ (-126 : ℤ) : ℝ) : EReal) := by
      have := hhi.resolve_left (by norm_num)
      rwa [pw_mid 1 le_rfl (by norm_num)] at this
    unfold rExp
    rw [c_min, c_inf, Ideal.ofBits_zero_f32]
    simp only [Ideal.cmp, decide_eq_true hlt]
    generalize decide (a = 0) = b
    generalize decide (q = ⊤) = b'
    cases b <;> cases b' <;> simp [Scalar.select, IntOp.ori]
  by_cases h255 : n = 255
  · subst h255
    rw [pw_top] at hlo
    have hqt : q = ⊤ := top_le_iff.mp hlo
    refine ⟨0, ?_, fun _ => rfl, by omega, by omega⟩
    unfold rExp
    rw [c_min, c_inf, Ideal.ofBits_zero_f32]
    simp [Ideal.cmp, Scalar.select, IntOp.ori, hqt]
  have hn1 : 1 ≤ n := by omega
  have hn254 : n ≤ 254 := by omega
  have hlt := hhi.resolve_left h255
  rw [pw_mid n hn1 hn254] at hlo
  have hqt : q ≠ ⊤ := fun h => by rw [h] at hlt; exact not_top_lt hlt
  have hqb : q ≠ ⊥ := fun h => by rw [h] at hq; simp at hq
  lift q to ℝ using ⟨hqt, hqb⟩ with r
  have hlo' : (2 : ℝ) ^ ((n : ℤ) - 127) ≤ r := by exact_mod_cast hlo
  have hrpos : (0 : ℝ) < r := lt_of_lt_of_le (by positivity) hlo'
  obtain ⟨k, hk⟩ : ∃ k : ℤ, (2 : ℝ) ^ k ≤ r ∧ r < (2 : ℝ) ^ (k + 1) := exists_mem_Ico_zpow hrpos (by norm_num)
  have hnot : ¬ r < (2 : ℝ) ^ (-126 : ℤ) := not_lt.mpr
    (le_trans (zpow_le_zpow_right₀ (by norm_num) (by omega)) hlo')
  have hval : rExp a (r : EReal) = (((k + 1 : ℤ) : ℝ) : EReal) := by
    unfold rExp
    have ha0 : a ≠ 0 := fun h => by
      have := ha h
      rw [EReal.coe_eq_zero] at this
      exact hrpos.ne' this
    have hnot' : ¬ (r : EReal) < (((2 : ℝ) ^ (-126 : ℤ) : ℝ) : EReal) := by
      rw [EReal.coe_lt_coe_iff]; exact hnot
    rw [c_min, c_inf, c_two, Ideal.ofBits_zero_f32, Ideal.ofBits_one_f32, floor_log r k hk.1 hk.2]
    simp only [Ideal.cmp, decide_eq_false hnot', decide_eq_false ha0]
    simp [Scalar.select, IntOp.ori]
  have hge : (n : ℤ) - 127 ≤ k := by
    have : (2 : ℝ) ^ ((n : ℤ) - 127) < (2 : ℝ) ^ (k + 1) := lt_of_le_of_lt hlo' hk.2
    have := (zpow_lt_zpow_iff_right₀ (by norm_num : (1 : ℝ) < 2)).mp this
    omega
  refine ⟨k + 1, hval, by omega, fun _ h253 => ?_, fun h => by omega⟩
  rw [pw_mid (n + 1) (by omega) (by omega)] at hlt
  have hlt' : r < (2 : ℝ) ^ (((n + 1 : ℕ) : ℤ) - 127) := by exact_mod_cast hlt
  have : (2 : ℝ) ^ k < (2 : ℝ) ^ (((n + 1 : ℕ) : ℤ) - 127) := lt_of_le_of_lt hk.1 hlt'
  have := (zpow_lt_zpow_iff_right₀ (by norm_num : (1 : ℝ) < 2)).mp this
  push_cast at this
  omega

/-- Both scales of a row whose greatest absolute value is `a` are the same, and so are both reciprocals. -/
theorem scales_eq (a : EReal) (ha : 0 ≤ a) :
    kScale (a * Ideal.ofBits .f32 0x3B124925#32) = rLdexp (rExp a (a * Ideal.ofBits .f32 0x3B124925#32)) ∧
    kInv (a * Ideal.ofBits .f32 0x3B124925#32) =
      rLdexp (Ideal.ofBits .f32 0x00000000#32 - rExp a (a * Ideal.ofBits .f32 0x3B124925#32)) := by
  obtain ⟨w, hw, hwe⟩ := c_inv
  have hq : 0 ≤ a * Ideal.ofBits .f32 0x3B124925#32 := by
    rw [hwe]; exact mul_nonneg ha (by exact_mod_cast hw.le)
  have h0 : a = 0 → a * Ideal.ofBits .f32 0x3B124925#32 = 0 := fun h => by rw [h, zero_mul]
  generalize a * Ideal.ofBits .f32 0x3B124925#32 = q at hq h0
  have habs : max q (-q) = q := max_eq_left (le_trans (EReal.neg_le_zero.mpr hq) hq)
  obtain ⟨n, hs, hn, hlo, hhi⟩ := search_spec q hq
  obtain ⟨k, hk, k0, kmid, khi⟩ := rExp_spec a q h0 n hn hlo hhi hq
  obtain ⟨f1, f2⟩ := clip_fields ⟨n, by omega⟩
  simp only at f1 f2
  have hneg : Ideal.ofBits .f32 0x00000000#32 - ((k : ℝ) : EReal) = (((-k : ℤ) : ℝ) : EReal) := by
    rw [Ideal.ofBits_zero_f32, zero_sub]; push_cast; rfl
  rw [kScale, kInv, habs, hs, f1, f2, hk, hneg, rLdexp_int, rLdexp_int]
  by_cases hends : n = 0 ∨ n = 255
  · rw [if_pos hends, if_pos hends, k0 hends, pw_mid 127 (by norm_num) (by norm_num)]
    norm_num
  rw [if_neg hends, if_neg hends]
  by_cases h254 : n = 254
  · have := khi h254
    subst h254
    rw [show 254 + 1 = 255 from rfl, pw_top, if_pos (by omega), show 253 - 254 = 0 from rfl, pw_zero, if_neg (by omega), if_pos (by omega)]
    exact ⟨rfl, rfl⟩
  have hk' := kmid (by omega) (by omega)
  subst hk'
  rw [if_neg (by omega), if_neg (by omega), if_neg (by omega), pw_mid (n + 1) (by omega) (by omega)]
  constructor
  · congr 2; push_cast; ring
  by_cases h253 : n = 253
  · subst h253
    rw [show 253 - 253 = 0 from rfl, pw_zero, if_pos (by norm_num)]
  · rw [if_neg (by omega), pw_mid (253 - n) (by omega) (by omega)]
    congr 2; omega

end Cert.Scale
-- ==== Proof.Block.lean ====
module

public import proofs.«01_k».proof.Proof.Gen.KernelIdeal.Skeleton
public import Idealize.ShloMosaic.Lib.Pipeline.ValueKit
public import proofs.«01_k».proof.Proof.Scale

/-!
  What one grid point of the kernel computes from its blocks, as functions of whole blocks: the products
  `h`, the row maxima of their absolute values, the two scales, and the codes.
-/

@[expose] public section

set_option maxRecDepth 16384

noncomputable section

open Idealize.ShloMosaic Idealize.ShloMosaic.TcCoe Idealize.SL.Sem

/-- One element of `h`: the row of `x` against a column of each weight, each product scaled by the row's scale and the
    column's scale, the first through `silu`, times the second. -/
def Cert.hOf (x : Fin 2304 → EReal) (xs : EReal) (wg : Fin 2304 → EReal) (gs : EReal) (wu : Fin 2304 → EReal) (us : EReal) : EReal :=
  ((∑ k, x k * wg k) * xs * gs) * Ideal.logistic ((∑ k, x k * wg k) * xs * gs) * ((∑ k, x k * wu k) * xs * us)

namespace Cert.KernelIdeal.Block

open Cert.KernelIdeal Cert.KernelIdeal.Gen

/-! ## The chunk payloads are all one function -/

/-- A shape cast to the same shape changes nothing, whatever the payload. -/
theorem cast_same (v : FVec Ideal S256x256 .f32) (h : S256x256.ShapeCasts S256x256) : shapeCast S256x256 v h = v := shapeCast_self v h

/-- The product of every column chunk is the product of the second one, of other columns. -/
theorem products (v11 : FVec Ideal S256x256 .f32) (v13 : FVec Ideal S256x2304 .fp8e4m3) (w : FVec Ideal S2304x256 .fp8e4m3)
    (g : FVec Ideal S1x256 .f32) (u : FVec Ideal S2304x256 .fp8e4m3) (s : FVec Ideal S1x256 .f32) :
    k0_pay10 (F := Ideal) v11 v13 w g u s = k0_pay7 v11 v13 w g u s ∧
    k0_pay12 (F := Ideal) v11 v13 w g u s = k0_pay7 v11 v13 w g u s ∧
    k0_pay17 (F := Ideal) (k0_pay15 v11 v13 w g) (k0_pay16 v11 v13 u) s = k0_pay7 v11 v13 w g u s ∧
    k0_pay19 (F := Ideal) v11 v13 w g u s = k0_pay7 v11 v13 w g u s ∧
    k0_pay23 (F := Ideal) v11 v13 (k0_pay22 v11 v13 w) g u s = k0_pay7 v11 v13 w g u s ∧
    k0_pay26 (F := Ideal) v11 v13 w g u s = k0_pay7 v11 v13 w g u s ∧
    k0_pay28 (F := Ideal) v11 v13 w g u s = k0_pay7 v11 v13 w g u s ∧
    k0_pay34 (F := Ideal) (k0_pay31 v11 v13 w g) (k0_pay32 v11 v13 u) (k0_pay33 s) = k0_pay7 v11 v13 w g u s ∧
    k0_pay36 (F := Ideal) v11 v13 w g u s = k0_pay7 v11 v13 w g u s ∧
    k0_pay40 (F := Ideal) v11 v13 (k0_pay39 v11 v13 w g) u s = k0_pay7 v11 v13 w g u s ∧
    k0_pay42 (F := Ideal) v11 v13 w g u s = k0_pay7 v11 v13 w g u s ∧
    k0_pay45 (F := Ideal) v11 v13 w g u s = k0_pay7 v11 v13 w g u s :=
  ⟨rfl, rfl, rfl, rfl, rfl, rfl, rfl, rfl, rfl, rfl, rfl, rfl⟩

/-- The product of the first column chunk, likewise. -/
theorem product0 (v0 v5 : FVec Ideal S1x1x128 .f32) (x : FVec Ideal S256x2304 .fp8e4m3) (w : FVec Ideal S2304x256 .fp8e4m3)
    (g : FVec Ideal S1x256 .f32) (u : FVec Ideal S2304x256 .fp8e4m3) (s : FVec Ideal S1x256 .f32) :
    k0_pay4 (F := Ideal) v0 v5 x w g u s = k0_pay7 (k0_pay2 v0 v5) (k0_pay3 x) w g u s := rfl

/-- What is stored of each chunk is its product. -/
theorem stores :
    k0_pay5 (F := Ideal) = k0_pay4 (F := Ideal) ∧ k0_pay8 (F := Ideal) = k0_pay7 (F := Ideal) ∧
    (∀ p : FVec Ideal S256x256 .f32, k0_pay11 (F := Ideal) p = p) ∧ k0_pay13 (F := Ideal) = k0_pay12 (F := Ideal) ∧
    k0_pay18 (F := Ideal) = k0_pay17 (F := Ideal) ∧ k0_pay20 (F := Ideal) = k0_pay19 (F := Ideal) ∧
    k0_pay24 (F := Ideal) = k0_pay23 (F := Ideal) ∧ k0_pay27 (F := Ideal) = k0_pay26 (F := Ideal) ∧
    k0_pay29 (F := Ideal) = k0_pay28 (F := Ideal) ∧ k0_pay35 (F := Ideal) = k0_pay34 (F := Ideal) ∧
    k0_pay37 (F := Ideal) = k0_pay36 (F := Ideal) ∧ k0_pay41 (F := Ideal) = k0_pay40 (F := Ideal) ∧
    k0_pay43 (F := Ideal) = k0_pay42 (F := Ideal) ∧ k0_pay46 (F := Ideal) = k0_pay45 (F := Ideal) := by
  refine ⟨?_, ?_, ?_, ?_, ?_, ?_, ?_, ?_, ?_, ?_, ?_, ?_, ?_, ?_⟩
  all_goals first
    | exact fun p => cast_same _ _
    | exact funext fun _ => funext fun _ => funext fun _ => funext fun _ => funext fun _ => funext fun _ => funext fun _ => cast_same _ _
    | exact funext fun _ => funext fun _ => funext fun _ => funext fun _ => funext fun _ => funext fun _ => cast_same _ _
    | exact funext fun _ => funext fun _ => funext fun _ => funext fun _ => funext fun _ => cast_same _ _
    | exact funext fun _ => funext fun _ => funext fun _ => cast_same _ _

/-- The running maximum of the absolute values, from each chunk or pair of chunks to the next. -/
theorem maxima :
    (∀ v0 v5 x w g u s, k0_pay6 (F := Ideal) v0 v5 x w g u s = absf (k0_pay4 v0 v5 x w g u s)) ∧
    (∀ v x a w g u s, k0_pay9 (F := Ideal) v x a w g u s = maximumf a (absf (k0_pay7 v x w g u s))) ∧
    (∀ v x a p w g u s, k0_pay14 (F := Ideal) v x a p w g u s = maximumf (maximumf a (absf p)) (absf (k0_pay12 v x w g u s))) ∧
    (∀ v x a p q s' w g u s, k0_pay21 (F := Ideal) v x a p q s' w g u s =
      maximumf (maximumf a (absf (k0_pay17 p q s'))) (absf (k0_pay19 v x w g u s))) ∧
    (∀ v x a p g u s, k0_pay25 (F := Ideal) v x a p g u s = maximumf a (absf (k0_pay23 v x p g u s))) ∧
    (∀ v x a p w g u s, k0_pay30 (F := Ideal) v x a p w g u s = maximumf (maximumf a (absf p)) (absf (k0_pay28 v x w g u s))) ∧
    (∀ v x a p q z w g u s, k0_pay38 (F := Ideal) v x a p q z w g u s =
      maximumf (maximumf a (absf (k0_pay34 p q z))) (absf (k0_pay36 v x w g u s))) ∧
    (∀ v x a p u' s' w g u s, k0_pay44 (F := Ideal) v x a p u' s' w g u s =
      maximumf (maximumf a (absf (k0_pay40 v x p u' s'))) (absf (k0_pay42 v x w g u s))) := by
  refine ⟨?_, ?_, ?_, ?_, ?_, ?_, ?_, ?_⟩ <;> intros <;> rfl

/-- Every block of codes is computed alike: the clipped product of a block of `h` and the reciprocal scales. -/
theorem codes (v : FVec Ideal S256x128 .f32) (h : FVec Ideal S256x128 .f32) :
    k0_pay62 (F := Ideal) v h = k0_pay1 v h ∧
    k0_pay63 (F := Ideal) v h = k0_pay1 v h ∧
    k0_pay64 (F := Ideal) v h = k0_pay1 v h ∧
    k0_pay65 (F := Ideal) v h = k0_pay1 v h ∧
    k0_pay66 (F := Ideal) v h = k0_pay1 v h ∧
    k0_pay67 (F := Ideal) v h = k0_pay1 v h ∧
    k0_pay68 (F := Ideal) v h = k0_pay1 v h ∧
    k0_pay69 (F := Ideal) v h = k0_pay1 v h ∧
    k0_pay70 (F := Ideal) v h = k0_pay1 v h ∧
    k0_pay71 (F := Ideal) v h = k0_pay1 v h ∧
    k0_pay72 (F := Ideal) v h = k0_pay1 v h ∧
    k0_pay73 (F := Ideal) v h = k0_pay1 v h ∧
    k0_pay74 (F := Ideal) v h = k0_pay1 v h ∧
    k0_pay75 (F := Ideal) v h = k0_pay1 v h ∧
    k0_pay76 (F := Ideal) v h = k0_pay1 v h ∧
    k0_pay77 (F := Ideal) v h = k0_pay1 v h ∧
    k0_pay78 (F := Ideal) v h = k0_pay1 v h ∧
    k0_pay79 (F := Ideal) v h = k0_pay1 v h ∧
    k0_pay80 (F := Ideal) v h = k0_pay1 v h ∧
    k0_pay81 (F := Ideal) v h = k0_pay1 v h ∧
    k0_pay82 (F := Ideal) v h = k0_pay1 v h ∧
    k0_pay83 (F := Ideal) v h = k0_pay1 v h ∧
    k0_pay84 (F := Ideal) v h = k0_pay1 v h ∧
    k0_pay85 (F := Ideal) v h = k0_pay1 v h ∧
    k0_pay86 (F := Ideal) v h = k0_pay1 v h ∧
    k0_pay87 (F := Ideal) v h = k0_pay1 v h ∧
    k0_pay88 (F := Ideal) v h = k0_pay1 v h :=
  ⟨rfl, rfl, rfl, rfl, rfl, rfl, rfl, rfl, rfl, rfl, rfl, rfl, rfl, rfl, rfl, rfl, rfl, rfl, rfl, rfl, rfl, rfl, rfl, rfl, rfl, rfl, rfl⟩

/-! ## Whole blocks -/

/-- The scale of row `r` of the block: entry `(r / 128, r % 128)` of the block of row scales. -/
def rowScale (x1 : FVec Ideal S1x2x128 .f32) (r : Fin 256) : EReal :=
  x1 (ix3 0 ⟨r.val / 128, by omega⟩ ⟨r.val % 128, by omega⟩)

variable (x0 : FVec Ideal S256x2304 .fp8e4m3) (x1 : FVec Ideal S1x2x128 .f32) (x2 : FVec Ideal S2304x3584 .fp8e4m3)
  (x3 : FVec Ideal S1x3584 .f32) (x4 : FVec Ideal S2304x3584 .fp8e4m3) (x5 : FVec Ideal S1x3584 .f32)

/-- The block of `h`: every row of the block against every column. -/
def H : FVec Ideal S256x3584 .f32 := fun y =>
  Cert.hOf (fun k => x0 (ix2 (y 0) k)) (rowScale x1 (y 0)) (fun k => x2 (ix2 k (y 1))) (x3 (ix2 0 (y 1)))
    (fun k => x4 (ix2 k (y 1))) (x5 (ix2 0 (y 1)))

/-- A column chunk's product at an index is `hOf` of the row and the columns. -/
theorem pay7_apply (v11 : FVec Ideal S256x256 .f32) (v13 : FVec Ideal S256x2304 .fp8e4m3) (w : FVec Ideal S2304x256 .fp8e4m3)
    (g : FVec Ideal S1x256 .f32) (u : FVec Ideal S2304x256 .fp8e4m3) (s : FVec Ideal S1x256 .f32) (r : Fin 256) (l : Fin 256) :
    k0_pay7 (F := Ideal) v11 v13 w g u s (ix2 r l) =
      Cert.hOf (fun k => v13 (ix2 r k)) (v11 (ix2 r l)) (fun k => w (ix2 k l)) (g (ix2 0 l)) (fun k => u (ix2 k l)) (s (ix2 0 l)) := by
  pointwise [k0_pay7, Cert.hOf]

/-- The tile of row scales holds row `r`'s scale in every column of row `r`. -/
theorem pay2_apply (inb0 : ∀ a, ![0, 0, 0] a + ![1, 1, 128] a ≤ S1x2x128.size a) (inb1 : ∀ a, ![0, 1, 0] a + ![1, 1, 128] a ≤ S1x2x128.size a)
    (r l : Fin 256) :
    k0_pay2 (F := Ideal) (View.ld (Val := Elt Ideal) (e' := .f32) x1 (Rect.unit ![0, 0, 0] ![1, 1, 128] inb0)) (View.ld (Val := Elt Ideal) (e' := .f32) x1 (Rect.unit ![0, 1, 0] ![1, 1, 128] inb1)) (ix2 r l) =
      rowScale x1 r := by
  pointwise [k0_pay2, rowScale]
  by_cases hr : r.val < 128 <;> by_cases hl : l.val < 128 <;> simp only [hr, hl, ↓reduceDIte] <;> blk_ext

/-- EVERY CHUNK: the product of the columns from `o` on is that block of `H`. -/
theorem chunk (inb0 : ∀ a, ![0, 0, 0] a + ![1, 1, 128] a ≤ S1x2x128.size a) (inb1 : ∀ a, ![0, 1, 0] a + ![1, 1, 128] a ≤ S1x2x128.size a)
    (o : ℕ) (hw : ∀ a, ![0, o] a + ![2304, 256] a ≤ S2304x3584.size a) (hg : ∀ a, ![0, o] a + ![1, 256] a ≤ S1x3584.size a)
    (hu : ∀ a, ![0, o] a + ![2304, 256] a ≤ S2304x3584.size a) (hs : ∀ a, ![0, o] a + ![1, 256] a ≤ S1x3584.size a) :
    k0_pay7 (F := Ideal) (k0_pay2 (View.ld (Val := Elt Ideal) (e' := .f32) x1 (Rect.unit ![0, 0, 0] ![1, 1, 128] inb0)) (View.ld (Val := Elt Ideal) (e' := .f32) x1 (Rect.unit ![0, 1, 0] ![1, 1, 128] inb1)))
      (k0_pay3 x0) (View.ld (Val := Elt Ideal) (e' := .fp8e4m3) x2 (Rect.unit ![0, o] ![2304, 256] hw)) (View.ld (Val := Elt Ideal) (e' := .f32) x3 (Rect.unit ![0, o] ![1, 256] hg))
      (View.ld (Val := Elt Ideal) (e' := .fp8e4m3) x4 (Rect.unit ![0, o] ![2304, 256] hu)) (View.ld (Val := Elt Ideal) (e' := .f32) x5 (Rect.unit ![0, o] ![1, 256] hs)) =
    View.ld (Val := Elt Ideal) (e' := .f32) (H x0 x1 x2 x3 x4 x5) (Rect.unit (s := S256x3584) ![0, o] ![256, 256] (fun a => by
      have := hg 1; fin_cases a <;> simp_all)) := by
  have ho : o + 256 ≤ 3584 := by simpa using hg 1
  funext y
  idx_vars y
  refine (pay7_apply _ _ _ _ _ _ y0 y1).trans ?_
  rw [pay2_apply]
  pointwise [k0_pay3, H, Cert.hOf]

/-! ## The row maximum -/

/-- The greatest absolute value of row `r` of `h`. -/
def rowMax (h : FVec Ideal S256x3584 .f32) (r : Fin 256) : EReal :=
  Finset.univ.fold max (Ideal.ofBits .f32 0xFF800000#32) (fun j : Fin 3584 => max (h (ix2 r j)) (-h (ix2 r j)))

/-- The row maximum from a tile of running maxima, times the word for 1/448, in every column of the tile of scales. -/
theorem pay47_apply (v11 : FVec Ideal S256x256 .f32) (v13 : FVec Ideal S256x2304 .fp8e4m3) (a : FVec Ideal S256x256 .f32)
    (w : FVec Ideal S2304x256 .fp8e4m3) (g : FVec Ideal S1x256 .f32) (u : FVec Ideal S2304x256 .fp8e4m3) (s : FVec Ideal S1x256 .f32)
    (r : Fin 256) (l : Fin 128) :
    k0_pay47 (F := Ideal) v11 v13 a w g u s (ix2 r l) =
      Finset.univ.fold max (Ideal.ofBits .f32 0xFF800000#32) (fun j : Fin 256 => maximumf a (absf (k0_pay45 v11 v13 w g u s)) (ix2 r j)) *
        Ideal.ofBits .f32 0x3B124925#32 := by
  pointwise [k0_pay47]

/-- The tile `a` holds running maxima of the first `n` chunks: entry `(r, l)` is the greatest absolute value of row `r` of `h`
    over the columns `256 * k + l`, `k < n`. -/
def Running (h : FVec Ideal S256x3584 .f32) (n : ℕ) (a : FVec Ideal S256x256 .f32) : Prop :=
  ∀ (r l : Fin 256) (z : EReal), a (ix2 r l) ≤ z ↔ ∀ (k : ℕ) (hk : k < n) (hc : 256 * k + l.val < 3584),
    max (h (ix2 r ⟨256 * k + l.val, hc⟩)) (-h (ix2 r ⟨256 * k + l.val, hc⟩)) ≤ z

/-- The first chunk's absolute values are the running maxima of one chunk. -/
theorem running_one (h : FVec Ideal S256x3584 .f32) (inb : ∀ a, ![0, 0] a + ![256, 256] a ≤ S256x3584.size a) :
    Running h 1 (absf (View.ld (Val := Elt Ideal) (e' := .f32) h (Rect.unit (s := S256x3584) ![0, 0] ![256, 256] inb))) := by
  intro r l z
  have e : absf (F := Ideal) (φ := .f32) (View.ld (Val := Elt Ideal) (e' := .f32) h (Rect.unit (s := S256x3584) ![0, 0] ![256, 256] inb)) (ix2 r l) =
      max (h (ix2 r ⟨256 * 0 + l.val, by omega⟩)) (-h (ix2 r ⟨256 * 0 + l.val, by omega⟩)) := by
    pointwise [Ideal.absf_def]
  rw [e]
  constructor
  · intro hz k hk hc
    obtain rfl : k = 0 := by omega
    exact hz
  · intro hz
    exact hz 0 (by omega) (by omega)

/-- The maximum with the next chunk's absolute values takes the running maxima one chunk on. -/
theorem running_next (h : FVec Ideal S256x3584 .f32) (n o : ℕ) (ho : o = 256 * n) (a : FVec Ideal S256x256 .f32)
    (inb : ∀ a, ![0, o] a + ![256, 256] a ≤ S256x3584.size a) (ha : Running h n a) :
    Running h (n + 1) (maximumf a (absf (View.ld (Val := Elt Ideal) (e' := .f32) h (Rect.unit (s := S256x3584) ![0, o] ![256, 256] inb)))) := by
  subst ho
  have hn : 256 * n + 256 ≤ 3584 := by simpa using inb 1
  intro r l z
  have e : maximumf (F := Ideal) (φ := .f32) a (absf (View.ld (Val := Elt Ideal) (e' := .f32) h (Rect.unit (s := S256x3584) ![0, 256 * n] ![256, 256] inb))) (ix2 r l) =
      max (a (ix2 r l)) (max (h (ix2 r ⟨256 * n + l.val, by omega⟩)) (-h (ix2 r ⟨256 * n + l.val, by omega⟩))) := by
    pointwise [Ideal.absf_def]
  rw [e, max_le_iff, ha r l z]
  constructor
  · rintro ⟨h1, h2⟩ k hk hc
    rcases Nat.lt_succ_iff_lt_or_eq.mp hk with hlt | rfl
    · exact h1 k hlt hc
    · exact h2
  · intro hz
    exact ⟨fun k hk hc => hz k (by omega) hc, hz n (by omega) (by omega)⟩

/-- Running maxima of all fourteen chunks, maximised along the row, are the row maximum. -/
theorem fold_running (h : FVec Ideal S256x3584 .f32) (a : FVec Ideal S256x256 .f32) (ha : Running h 14 a) (r : Fin 256) (b : EReal) :
    Finset.univ.fold max b (fun j : Fin 256 => a (ix2 r j)) =
      Finset.univ.fold max b (fun j : Fin 3584 => max (h (ix2 r j)) (-h (ix2 r j))) := by
  refine eq_of_forall_ge_iff fun z => ?_
  rw [Finset.fold_max_le, Finset.fold_max_le]
  refine and_congr_right fun _ => ⟨fun hz j _ => ?_, fun hz l _ => ?_⟩
  · have := (ha r ⟨j.val % 256, by omega⟩ z).mp (hz _ (Finset.mem_univ _)) (j.val / 256) (by omega) (by simp only; omega)
    have e : (⟨256 * (j.val / 256) + j.val % 256, by omega⟩ : Fin 3584) = j := Fin.ext (by simp only; omega)
    simp only [e] at this
    exact this
  · exact (ha r l z).mpr fun k hk hc => hz _ (Finset.mem_univ _)

/-! ## The scales -/

/-- One comparison of the search, on a tile. -/
def stepTile (q : FVec Ideal S256x128 .f32) (old : IVec S256x128 32) (bit : BitVec 32) : IVec S256x128 32 :=
  select (cmpf .olt (absf q) (bitcastToFloat .f32 (shli (addi old (broadcast S256x128 bit)) (broadcast S256x128 23#32)))) old
    (addi old (broadcast S256x128 bit))

/-- At an element it is one comparison of the scalar search. -/
theorem stepTile_apply (q : FVec Ideal S256x128 .f32) (old : IVec S256x128 32) (bit : BitVec 32) (i : S256x128.Idx) :
    stepTile q old bit i = Cert.Scale.step (max (q i) (-q i)) (old i) bit := rfl

/-- The exponent of every element of a tile of fields. -/
theorem expo_tile (q : FVec Ideal S256x128 .f32) (f : IVec S256x128 32) (i : S256x128.Idx) :
    k0_pay56 (F := Ideal) f (addi f (broadcast S256x128 1#32)) (absf q)
      (bitcastToFloat .f32 (shli (addi f (broadcast S256x128 1#32)) (broadcast S256x128 23#32))) i =
    Cert.Scale.expo (Cert.Scale.step (max (q i) (-q i)) (f i) 1#32) := by
  rw [← stepTile_apply]
  generalize hz : stepTile q f 1#32 = z
  unfold k0_pay56
  change (select (ori (cmpi .eq (stepTile q f 1#32) _) (cmpi .eq (stepTile q f 1#32) _)) _ (subi (stepTile q f 1#32) _) : IVec S256x128 32) i = _
  rw [hz]
  rfl

/-- The comparisons with bits 64 to 2, on a tile. -/
theorem middle_tile (q : FVec Ideal S256x128 .f32) (f : IVec S256x128 32) :
    k0_pay52 (F := Ideal) q f (addi f (broadcast S256x128 64#32)) (absf q)
      (bitcastToFloat .f32 (shli (addi f (broadcast S256x128 64#32)) (broadcast S256x128 23#32))) =
    stepTile q (stepTile q (stepTile q (stepTile q (stepTile q (stepTile q f 64#32) 32#32) 16#32) 8#32) 4#32) 2#32 := rfl

/-- The exponent of every element of `q`, by all eight comparisons. -/
theorem search_tile (v11 : FVec Ideal S256x256 .f32) (v13 : FVec Ideal S256x2304 .fp8e4m3) (a : FVec Ideal S256x256 .f32)
    (w : FVec Ideal S2304x256 .fp8e4m3) (g : FVec Ideal S1x256 .f32) (u : FVec Ideal S2304x256 .fp8e4m3) (s : FVec Ideal S1x256 .f32)
    (q : FVec Ideal S256x128 .f32) (hq : k0_pay47 (F := Ideal) v11 v13 a w g u s = q) (i : S256x128.Idx) :
    k0_pay56 (F := Ideal) (k0_pay52 q (k0_pay48 v11 v13 a w g u s) (k0_pay49 v11 v13 a w g u s) (k0_pay50 v11 v13 a w g u s) (k0_pay51 v11 v13 a w g u s))
      (k0_pay53 q (k0_pay48 v11 v13 a w g u s) (k0_pay49 v11 v13 a w g u s) (k0_pay50 v11 v13 a w g u s) (k0_pay51 v11 v13 a w g u s))
      (k0_pay54 q)
      (k0_pay55 q (k0_pay48 v11 v13 a w g u s) (k0_pay49 v11 v13 a w g u s) (k0_pay50 v11 v13 a w g u s) (k0_pay51 v11 v13 a w g u s)) i =
    Cert.Scale.expo (Cert.Scale.search (max (q i) (-q i))) := by
  have h1 : k0_pay48 (F := Ideal) v11 v13 a w g u s = stepTile q (broadcast S256x128 0#32) 128#32 := by subst hq; rfl
  have h3 : k0_pay50 (F := Ideal) v11 v13 a w g u s = absf q := by subst hq; rfl
  have h2 : k0_pay49 (F := Ideal) v11 v13 a w g u s = addi (stepTile q (broadcast S256x128 0#32) 128#32) (broadcast S256x128 64#32) := by
    rw [← h1]; rfl
  have h4 : k0_pay51 (F := Ideal) v11 v13 a w g u s =
      bitcastToFloat .f32 (shli (addi (stepTile q (broadcast S256x128 0#32) 128#32) (broadcast S256x128 64#32)) (broadcast S256x128 23#32)) := by
    rw [← h2]; rfl
  rw [h1, h2, h3, h4]
  unfold k0_pay55 k0_pay54 k0_pay53
  rw [middle_tile]
  refine (expo_tile q _ i).trans ?_
  simp only [stepTile_apply]
  rfl

/-- The two tiles of scales from the tile `q` of scaled row maxima: the scales, -/
theorem scale_tile (v11 : FVec Ideal S256x256 .f32) (v13 : FVec Ideal S256x2304 .fp8e4m3) (a : FVec Ideal S256x256 .f32)
    (w : FVec Ideal S2304x256 .fp8e4m3) (g : FVec Ideal S1x256 .f32) (u : FVec Ideal S2304x256 .fp8e4m3) (s : FVec Ideal S1x256 .f32)
    (q : FVec Ideal S256x128 .f32) (hq : k0_pay47 (F := Ideal) v11 v13 a w g u s = q) :
    k0_pay57 (F := Ideal) (k0_pay52 q (k0_pay48 v11 v13 a w g u s) (k0_pay49 v11 v13 a w g u s) (k0_pay50 v11 v13 a w g u s) (k0_pay51 v11 v13 a w g u s))
      (k0_pay53 q (k0_pay48 v11 v13 a w g u s) (k0_pay49 v11 v13 a w g u s) (k0_pay50 v11 v13 a w g u s) (k0_pay51 v11 v13 a w g u s))
      (k0_pay54 q)
      (k0_pay55 q (k0_pay48 v11 v13 a w g u s) (k0_pay49 v11 v13 a w g u s) (k0_pay50 v11 v13 a w g u s) (k0_pay51 v11 v13 a w g u s)) =
    fun i => Cert.Scale.kScale (q i) := by
  have e := funext (search_tile v11 v13 a w g u s q hq)
  unfold k0_pay57
  rw [e]
  rfl

/-- and their reciprocals. -/
theorem inv_tile (v11 : FVec Ideal S256x256 .f32) (v13 : FVec Ideal S256x2304 .fp8e4m3) (a : FVec Ideal S256x256 .f32)
    (w : FVec Ideal S2304x256 .fp8e4m3) (g : FVec Ideal S1x256 .f32) (u : FVec Ideal S2304x256 .fp8e4m3) (s : FVec Ideal S1x256 .f32)
    (q : FVec Ideal S256x128 .f32) (hq : k0_pay47 (F := Ideal) v11 v13 a w g u s = q) :
    k0_pay58 (F := Ideal) (k0_pay52 q (k0_pay48 v11 v13 a w g u s) (k0_pay49 v11 v13 a w g u s) (k0_pay50 v11 v13 a w g u s) (k0_pay51 v11 v13 a w g u s))
      (k0_pay53 q (k0_pay48 v11 v13 a w g u s) (k0_pay49 v11 v13 a w g u s) (k0_pay50 v11 v13 a w g u s) (k0_pay51 v11 v13 a w g u s))
      (k0_pay54 q)
      (k0_pay55 q (k0_pay48 v11 v13 a w g u s) (k0_pay49 v11 v13 a w g u s) (k0_pay50 v11 v13 a w g u s) (k0_pay51 v11 v13 a w g u s)) =
    fun i => Cert.Scale.kInv (q i) := by
  have e := funext (search_tile v11 v13 a w g u s q hq)
  unfold k0_pay58
  rw [e]
  rfl

/-- The row maxima times the word for 1/448, in every column. -/
def qTile (h : FVec Ideal S256x3584 .f32) : FVec Ideal S256x128 .f32 := fun y => rowMax h (y 0) * Ideal.ofBits .f32 0x3B124925#32

/-- The block of codes: every element of `h` times its row's reciprocal scale, clipped. -/
def Codes (h : FVec Ideal S256x3584 .f32) : FVec Ideal S256x3584 .fp8e4m3 := fun y =>
  min (Ideal.ofBits .f32 0x43E00000#32) (max (Ideal.ofBits .f32 0xC3E00000#32)
    (h y * Cert.Scale.kInv (rowMax h (y 0) * Ideal.ofBits .f32 0x3B124925#32)))

/-- The block of scales: entry `(0, a, b)` is the scale of row `128 * a + b`. -/
def Scales (h : FVec Ideal S256x3584 .f32) : FVec Ideal S1x2x128 .f32 := fun y =>
  Cert.Scale.kScale (rowMax h ⟨128 * (y 1).val + (y 2).val, by have := (y 1).isLt; have := (y 2).isLt; simp only [Shape.size, Shape.Coord] at *; simp at *; omega⟩ *
    Ideal.ofBits .f32 0x3B124925#32)

/-- EVERY BLOCK OF CODES: from the columns from `o` on of `h`, those columns of the codes. -/
theorem codes_tile (h : FVec Ideal S256x3584 .f32) (o : ℕ) (inb : ∀ a, ![0, o] a + ![256, 128] a ≤ S256x3584.size a) :
    k0_pay1 (F := Ideal) (fun i => Cert.Scale.kInv (qTile h i))
      (View.ld (Val := Elt Ideal) (e' := .f32) h (Rect.unit (s := S256x3584) ![0, o] ![256, 128] inb)) =
    View.ld (Val := Elt Ideal) (e' := .fp8e4m3) (Codes h) (Rect.unit (s := S256x3584) ![0, o] ![256, 128] inb) := by
  funext y
  idx_vars y
  pointwise [k0_pay1, Codes, qTile]

/-- The first row of scales stored. -/
theorem scales_first (h : FVec Ideal S256x3584 .f32) (p q r s) (hs : k0_pay57 (F := Ideal) p q r s = fun i => Cert.Scale.kScale (qTile h i))
    (inb : ∀ a, ![0, 0, 0] a + ![1, 1, 128] a ≤ S1x2x128.size a) :
    k0_pay60 (F := Ideal) (k0_pay59 p q r s) =
    View.ld (Val := Elt Ideal) (e' := .f32) (Scales h) (Rect.unit (s := S1x2x128) ![0, 0, 0] ![1, 1, 128] inb) := by
  unfold k0_pay59
  rw [hs]
  funext y
  idx_vars y
  pointwise [k0_pay60, Scales, qTile]

/-- The second row of scales stored. -/
theorem scales_second (h : FVec Ideal S256x3584 .f32) (inb : ∀ a, ![0, 1, 0] a + ![1, 1, 128] a ≤ S1x2x128.size a) :
    k0_pay61 (F := Ideal) (fun i => Cert.Scale.kScale (qTile h i)) =
    View.ld (Val := Elt Ideal) (e' := .f32) (Scales h) (Rect.unit (s := S1x2x128) ![0, 1, 0] ![1, 1, 128] inb) := by
  funext y
  idx_vars y
  pointwise [k0_pay61, Scales, qTile]

end Cert.KernelIdeal.Block
-- ==== Proof.Point.lean ====
module

public import proofs.«01_k».proof.Proof.Gen.KernelIdeal.Frame
public import proofs.«01_k».proof.Proof.Block
public import Idealize.ShloMosaic.Lib.Pipeline.ValueKit

/-!
  What one grid point of the kernel leaves in its two output blocks: the codes and the scales of its
  256 rows.
-/

@[expose] public section

set_option maxRecDepth 16384

noncomputable section

open Idealize.ShloMosaic Idealize.ShloMosaic.TcCoe Idealize.SL.Sem

namespace Cert.KernelIdeal.Point

open Cert.KernelIdeal Cert.KernelIdeal.Gen Cert.KernelIdeal.Block

/-! ## Blocks written column band by column band -/

/-- The pieces of `L` all hold the contents `G`, and they cover the columns below `n`. -/
def Bands {e : EltTy} (G : S256x3584.Idx → Elt Ideal e) (n : ℕ) (L : List (View.Piece (Elt Ideal) S256x3584 e)) : Prop :=
  (∀ p ∈ L, ∀ x : p.1.shape.Idx, p.2 x = G (p.1.emb x)) ∧ ∀ y : S256x3584.Idx, (y 1).val < n → ∃ p ∈ L, y ∈ p.1.set

/-- No pieces cover no columns. -/
theorem bands_nil {e : EltTy} (G : S256x3584.Idx → Elt Ideal e) : Bands G 0 [] :=
  ⟨fun p hp => by simp at hp, fun y hy => absurd hy (Nat.not_lt_zero _)⟩

/-- A band of `w` columns that holds `G` extends the columns covered by `w`. -/
theorem bands_cons {e : EltTy} (G : S256x3584.Idx → Elt Ideal e) (o w : ℕ)
    (inb : ∀ a, ![0, o] a + ![256, w] a ≤ S256x3584.size a)
    (v : (Rect.unit (s := S256x3584) ![0, o] ![256, w] inb).shape.Idx → Elt Ideal e)
    (L : List (View.Piece (Elt Ideal) S256x3584 e))
    (hv : v = View.ld (Val := Elt Ideal) (e' := e) G (Rect.unit (s := S256x3584) ![0, o] ![256, w] inb)) (hL : Bands G o L) :
    Bands G (o + w) (⟨Rect.unit (s := S256x3584) ![0, o] ![256, w] inb, v⟩ :: L) := by
  refine ⟨fun p hp x => ?_, fun y hy => ?_⟩
  · rcases List.mem_cons.mp hp with rfl | hp
    · subst hv; rfl
    · exact hL.1 p hp x
  · by_cases h : (y 1).val < o
    · obtain ⟨p, hp, hy'⟩ := hL.2 y h
      exact ⟨p, List.mem_cons_of_mem _ hp, hy'⟩
    · refine ⟨_, List.mem_cons_self, ?_⟩
      have h0 : (y 0).val < 256 := (y 0).isLt
      mem_blk
      intro a
      fin_cases a
      · simp; omega
      · simp; omega

/-- Pieces that hold `G` and cover all columns leave `G`. -/
theorem bands_canon {e : EltTy} (G : S256x3584.Idx → Elt Ideal e) (L : List (View.Piece (Elt Ideal) S256x3584 e))
    (hL : Bands G 3584 L) : View.canon L = G :=
  funext fun y => View.canon_apply_of_pieces G L hL.1 y (hL.2 y (y 1).isLt)

/-- The tile of scaled row maxima: the running maxima of thirteen chunks, the last chunk, and the row maximum over both. -/
theorem q_eq (x0 : FVec Ideal S256x2304 .fp8e4m3) (x1 : FVec Ideal S1x2x128 .f32) (x2 : FVec Ideal S2304x3584 .fp8e4m3)
    (x3 : FVec Ideal S1x3584 .f32) (x4 : FVec Ideal S2304x3584 .fp8e4m3) (x5 : FVec Ideal S1x3584 .f32)
    (a : FVec Ideal S256x256 .f32) (ha : Running (H x0 x1 x2 x3 x4 x5) 13 a)
    (inb0 : ∀ a, ![0, 0, 0] a + ![1, 1, 128] a ≤ S1x2x128.size a) (inb1 : ∀ a, ![0, 1, 0] a + ![1, 1, 128] a ≤ S1x2x128.size a)
    (hw : ∀ a, ![0, 3328] a + ![2304, 256] a ≤ S2304x3584.size a) (hg : ∀ a, ![0, 3328] a + ![1, 256] a ≤ S1x3584.size a)
    (hu : ∀ a, ![0, 3328] a + ![2304, 256] a ≤ S2304x3584.size a) (hs : ∀ a, ![0, 3328] a + ![1, 256] a ≤ S1x3584.size a) :
    k0_pay47 (F := Ideal) (k0_pay2 (View.ld (Val := Elt Ideal) (e' := .f32) x1 (Rect.unit ![0, 0, 0] ![1, 1, 128] inb0))
        (View.ld (Val := Elt Ideal) (e' := .f32) x1 (Rect.unit ![0, 1, 0] ![1, 1, 128] inb1)))
      (k0_pay3 x0) a
      (View.ld (Val := Elt Ideal) (e' := .fp8e4m3) x2 (Rect.unit ![0, 3328] ![2304, 256] hw))
      (View.ld (Val := Elt Ideal) (e' := .f32) x3 (Rect.unit ![0, 3328] ![1, 256] hg))
      (View.ld (Val := Elt Ideal) (e' := .fp8e4m3) x4 (Rect.unit ![0, 3328] ![2304, 256] hu))
      (View.ld (Val := Elt Ideal) (e' := .f32) x5 (Rect.unit ![0, 3328] ![1, 256] hs)) = qTile (H x0 x1 x2 x3 x4 x5) := by
  funext y
  idx_vars y
  refine (pay47_apply _ _ _ _ _ _ _ y0 y1).trans ?_
  simp only [products, chunk]
  rw [fold_running _ _ (running_next _ 13 3328 rfl _ _ ha)]
  rfl

variable (m : (ℓ : Loc nD τ sig) → Buf (Elt Ideal) ℓ)

/-- The block of `h` of a grid point, from its input blocks. -/
def hBlk (c : Dev nD) (t : Fin cfg0.N) : FVec Ideal S256x3584 .f32 :=
  H (iblk m c 0 t) (iblk m c 1 t) (iblk m c 2 t) (iblk m c 3 t) (iblk m c 4 t) (iblk m c 5 t)

/-- The codes' block after a grid point: every element of `h` times its row's reciprocal scale, clipped. -/
theorem codes_point (c : Dev nD) (t : Fin cfg0.N) (y : S256x3584.Idx) : (dats m 0 c).after 6 t y = Codes (hBlk m c t) y := by
  rw [after0_6]
  unfold outsAt0
  frame_out
  generalize hq : k0_pay47 (F := Ideal) _ _ _ _ _ _ _ = q
  simp only [codes, inv_tile _ _ _ _ _ _ _ _ hq]
  generalize hR : View.readCov (Val := Elt Ideal) (View.whole cc0_scratch0) _ = R
  simp only [stores, products, product0, chunk] at hR
  simp only [maxima, products, product0, chunk] at hq
  have hq' : q = qTile (hBlk m c t) := by
    refine hq.symm.trans (q_eq _ _ _ _ _ _ _ ?_ _ _ _ _ _ _)
    iterate 12 refine running_next _ _ _ rfl _ _ ?_
    exact running_one _ _
  have hR' : R = fun B j => hBlk m c t (B.idx j) := by
    refine hR.symm.trans (funext fun B => ?_)
    rw [View.readCov_eq_canon', bands_canon (hBlk m c t)]
    iterate 14 refine bands_cons _ _ _ _ _ _ rfl ?_
    exact bands_nil _
  subst hq' hR'
  refine congrFun (bands_canon (e := .fp8e4m3) (Codes (hBlk m c t)) _ ?_) y
  iterate 28 refine bands_cons _ _ _ _ _ _ (codes_tile _ _ _) ?_
  exact bands_nil _

/-- The scales' block after a grid point: the scale of every row. -/
theorem scales_point (c : Dev nD) (t : Fin cfg0.N) (y : S1x2x128.Idx) : (dats m 0 c).after 7 t y = Scales (hBlk m c t) y := by
  rw [after0_7]
  unfold outsAt0
  frame_out
  generalize hq : k0_pay47 (F := Ideal) _ _ _ _ _ _ _ = q
  have hs := scale_tile _ _ _ _ _ _ _ _ hq
  simp only [hs]
  simp only [maxima, products, product0, chunk] at hq
  have hq' : q = qTile (hBlk m c t) := by
    refine hq.symm.trans (q_eq _ _ _ _ _ _ _ ?_ _ _ _ _ _ _)
    iterate 12 refine running_next _ _ _ rfl _ _ ?_
    exact running_one _ _
  subst hq'
  refine View.canon_apply_of_pieces (Val := Elt Ideal) (e := .f32) (Scales (hBlk m c t)) _ ?_ y ?_
  · intro p hp x
    simp only [List.mem_cons, List.not_mem_nil, or_false] at hp
    rcases hp with rfl | rfl
    · exact congrFun (scales_second _ inb_S1x2x128_S1x1x128_0_1_0) x
    · exact congrFun (scales_first _ _ _ _ _ hs inb_S1x2x128_S1x1x128_0_0_0) x
  · have h0 : (y 0).val < 1 := (y 0).isLt
    have h1 : (y 1).val < 2 := (y 1).isLt
    have h2 : (y 2).val < 128 := (y 2).isLt
    rcases (by omega : (y 1).val = 1 ∨ (y 1).val = 0) with h | h
    · refine ⟨_, List.mem_cons_self, ?_⟩
      mem_blk
      intro a
      fin_cases a <;> simp <;> omega
    · refine ⟨_, List.mem_cons_of_mem _ List.mem_cons_self, ?_⟩
      mem_blk
      intro a
      fin_cases a <;> simp <;> omega

end Cert.KernelIdeal.Point
-- ==== Proof.Array.lean ====
module

public import proofs.«01_k».proof.Proof.Gen.KernelIdeal.Value
public import proofs.«01_k».proof.Proof.Point

/-!
  The kernel's two result arrays as functions of its six arguments.
-/

@[expose] public section

set_option maxRecDepth 16384

noncomputable section

open Idealize.ShloMosaic Idealize.ShloMosaic.TcCoe Idealize.SL.Sem

namespace Cert.Arrays

open Cert.KernelIdeal

/-- Element `(r, c)` of `h` from the arguments: token `r` is token `r % 4096` of sequence `r / 4096`. -/
def h (a0 : FVec Ideal S8x4096x2304 .fp8e4m3) (a1 : FVec Ideal S8x4096x1 .f32) (a2 : FVec Ideal S2304x3584 .fp8e4m3)
    (a3 : FVec Ideal S3584 .f32) (a4 : FVec Ideal S2304x3584 .fp8e4m3) (a5 : FVec Ideal S3584 .f32)
    (r : Fin 32768) (c : Fin 3584) : EReal :=
  Cert.hOf (fun k => a0 (ix3 (⟨r.val / 4096, by omega⟩ : Fin 8) (⟨r.val % 4096, by omega⟩ : Fin 4096) k))
    (a1 (ix3 (⟨r.val / 4096, by omega⟩ : Fin 8) (⟨r.val % 4096, by omega⟩ : Fin 4096) (0 : Fin 1)))
    (fun k => a2 (ix2 k c)) (a3 (ix1 c)) (fun k => a4 (ix2 k c)) (a5 (ix1 c))

/-- The greatest absolute value of row `r`. -/
def top (h : Fin 32768 → Fin 3584 → EReal) (r : Fin 32768) : EReal :=
  Finset.univ.fold max (Ideal.ofBits .f32 0xFF800000#32) fun j : Fin 3584 => max (h r j) (-h r j)

/-- The codes of `h` under the scales that the kernel computes. -/
def kCode (h : Fin 32768 → Fin 3584 → EReal) (r : Fin 32768) (c : Fin 3584) : EReal :=
  min (Ideal.ofBits .f32 0x43E00000#32) (max (Ideal.ofBits .f32 0xC3E00000#32)
    (h r c * Cert.Scale.kInv (top h r * Ideal.ofBits .f32 0x3B124925#32)))

/-- The codes' array. -/
def codes (h : Fin 32768 → Fin 3584 → EReal) : FVec Ideal S32768x3584 .fp8e4m3 := fun y => kCode h (y 0) (y 1)

/-- The token whose scale stands at `(a, b, c)` of the scales' array. -/
def token (a : Fin 128) (b : Fin 2) (c : Fin 128) : Fin 32768 := ⟨256 * a.val + 128 * b.val + c.val, by omega⟩

/-- The scales' array. -/
def scales (h : Fin 32768 → Fin 3584 → EReal) : FVec Ideal S128x2x128 .f32 := fun y =>
  Cert.Scale.kScale (top h (token (y 0) (y 1) (y 2)) * Ideal.ofBits .f32 0x3B124925#32)

end Cert.Arrays

namespace Cert.KernelIdeal.Arrays

open Cert.KernelIdeal Cert.KernelIdeal.Gen Cert.KernelIdeal.Block Cert.KernelIdeal.Point

variable (m : (ℓ : Loc nD τ sig) → Buf (Elt Ideal) ℓ)

/-- Which block of its array each window holds at a grid point. -/
theorem idx : ∀ t : Fin cfg0.N, win0_0.index t = ![t.val, 0] ∧ win0_1.index t = ![t.val, 0, 0] ∧ win0_2.index t = ![0, 0] ∧
    win0_3.index t = ![0, 0] ∧ win0_4.index t = ![0, 0] ∧ win0_5.index t = ![0, 0] ∧ win0_6.index t = ![t.val, 0] ∧
    win0_7.index t = ![t.val, 0, 0] :=
  (by decide +kernel : ∀ t : Fin grid0.N, win0_0.index t = ![t.val, 0] ∧ win0_1.index t = ![t.val, 0, 0] ∧ win0_2.index t = ![0, 0] ∧
    win0_3.index t = ![0, 0] ∧ win0_4.index t = ![0, 0] ∧ win0_5.index t = ![0, 0] ∧ win0_6.index t = ![t.val, 0] ∧
    win0_7.index t = ![t.val, 0, 0])

/-- There are 128 grid points. -/
theorem points (t : Fin cfg0.N) : t.val < 128 := lt_of_lt_of_eq t.isLt (by decide +kernel)

/-- `h` of the arguments in memory. -/
def hArg (c : Dev nD) : Fin 32768 → Fin 3584 → EReal :=
  Cert.Arrays.h (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A grid point's block of `h` is 256 rows of `h`. -/
theorem hBlk_apply (c : Dev nD) (t : Fin cfg0.N) (r : Fin 256) (j : Fin 3584) :
    hBlk m c t (ix2 r j) = hArg m c ⟨256 * t.val + r.val, by have := points t; omega⟩ j := by
  have ht := points t
  pointwise [hBlk, H, hArg, Cert.Arrays.h, Cert.hOf, rowScale]
  blk_point [iblk, V, idx t]

/-- So is its row maximum. -/
theorem rowMax_hBlk (c : Dev nD) (t : Fin cfg0.N) (r : Fin 256) :
    rowMax (hBlk m c t) r = Cert.Arrays.top (hArg m c) ⟨256 * t.val + r.val, by have := points t; omega⟩ := by
  unfold rowMax Cert.Arrays.top
  simp only [hBlk_apply]

/-- Where element `y` of a block of codes stands in the array. -/
theorem emb_codes (t : Fin cfg0.N) (y : S256x3584.Idx) :
    (show S32768x3584.Idx from (win0_6.blk t).view.emb y) = ix2 ⟨256 * t.val + (y 0).val, by have := points t; have : (y 0).val < 256 := (y 0).isLt; omega⟩ (y 1) := by
  have h0 : (y 0).val < 256 := (y 0).isLt
  blk_ext [idx t]

/-- Where element `y` of a block of scales stands in the array. -/
theorem emb_scales (t : Fin cfg0.N) (y : S1x2x128.Idx) :
    (show S128x2x128.Idx from (win0_7.blk t).view.emb y) = ix3 ⟨t.val, points t⟩ (y 1) (y 2) := by
  have h0 : (y 0).val < 1 := (y 0).isLt
  blk_ext [idx t]

/-- A grid point's codes are the array's. -/
theorem codes_block (c : Dev nD) (t : Fin cfg0.N) (y : S256x3584.Idx) (i : S32768x3584.Idx)
    (hi : i = ix2 ⟨256 * t.val + (y 0).val, by have := points t; have : (y 0).val < 256 := (y 0).isLt; omega⟩ (y 1)) :
    Codes (hBlk m c t) y = Cert.Arrays.codes (hArg m c) i := by
  subst hi
  idx_vars y
  change min _ (max _ (hBlk m c t (ix2 y0 y1) * Cert.Scale.kInv (rowMax (hBlk m c t) y0 * _))) = _
  rw [rowMax_hBlk, hBlk_apply]
  rfl

/-- A grid point's scales are the array's. -/
theorem scales_block (c : Dev nD) (t : Fin cfg0.N) (y : S1x2x128.Idx) (i : S128x2x128.Idx) (hi : i = ix3 ⟨t.val, points t⟩ (y 1) (y 2)) :
    Scales (hBlk m c t) y = Cert.Arrays.scales (hArg m c) i := by
  subst hi
  idx_vars y
  unfold Scales Cert.Arrays.scales
  rw [rowMax_hBlk]
  congr 3
  refine Fin.ext ?_
  change 256 * t.val + (128 * y1.val + y2.val) = 256 * t.val + 128 * y1.val + y2.val
  omega

/-- The first result array after the run. -/
theorem codes_array (c : Dev nD) : (dats m 0 c).arrAt 6 cfg0.N = Cert.Arrays.codes (hArg m c) := by
  refine (dats m 0 c).arrAt_eq_of_covers 6 _ (by decide +kernel) fun t _ y => ?_
  blk_simp
  exact (codes_point m c t y).trans (codes_block m c t y _ (emb_codes t y))

/-- The second result array after the run. -/
theorem scales_array (c : Dev nD) : (dats m 0 c).arrAt 7 cfg0.N = Cert.Arrays.scales (hArg m c) := by
  refine (dats m 0 c).arrAt_eq_of_covers 7 _ (by decide +kernel) fun t _ y => ?_
  blk_simp
  exact (scales_point m c t y).trans (scales_block m c t y _ (emb_scales t y))

end Cert.KernelIdeal.Arrays
-- ==== Proof.RefArray.lean ====
module

public import proofs.«01_k».proof.Proof.Gen.ReferenceIdeal.Frame
public import proofs.«01_k».proof.Proof.Array

/-!
  The reference's two result arrays as functions of its six arguments.
-/

@[expose] public section

set_option maxRecDepth 16384

noncomputable section

open Idealize.ShloMosaic Idealize.ShloMosaic.TcCoe Idealize.SL.Sem

namespace Cert.ReferenceIdeal.Arrays

open Cert.ReferenceIdeal Cert.ReferenceIdeal.Gen

/-- The codes of `h` under the scales that the reference computes. -/
def rCode (h : Fin 32768 → Fin 3584 → EReal) (r : Fin 32768) (c : Fin 3584) : EReal :=
  min (Ideal.ofBits .f32 0x43E00000#32) (max (Ideal.ofBits .f32 0xC3E00000#32)
    (h r c * Cert.Scale.rLdexp (Ideal.ofBits .f32 0x00000000#32 -
      Cert.Scale.rExp (Cert.Arrays.top h r) (Cert.Arrays.top h r * Ideal.ofBits .f32 0x3B124925#32))))

/-- The reference's scale of row `r`. -/
def rScale (h : Fin 32768 → Fin 3584 → EReal) (r : Fin 32768) : EReal :=
  Cert.Scale.rLdexp (Cert.Scale.rExp (Cert.Arrays.top h r) (Cert.Arrays.top h r * Ideal.ofBits .f32 0x3B124925#32))

section Payloads

variable (x0 : FVec Ideal S32768x2304 .fp8e4m3) (x1 : FVec Ideal S32768x1 .f32) (x2 : FVec Ideal S2304x3584 .fp8e4m3)
  (x3 : FVec Ideal S1x3584 .f32) (x4 : FVec Ideal S2304x3584 .fp8e4m3) (x5 : FVec Ideal S1x3584 .f32)

/-- `h` of the operands. -/
def hOps (r : Fin 32768) (c : Fin 3584) : EReal :=
  Cert.hOf (fun k => x0 (ix2 r k)) (x1 (ix2 r (0 : Fin 1))) (fun k => x2 (ix2 k c)) (x3 (ix2 (0 : Fin 1) c)) (fun k => x4 (ix2 k c)) (x5 (ix2 (0 : Fin 1) c))

/-- The reference's `h` at an element. -/
theorem h_apply (r : Fin 32768) (c : Fin 3584) : k0_pay1 (F := Ideal) x1 x0 x2 x3 x0 x4 x5 (ix2 r c) = hOps x0 x1 x2 x3 x4 x5 r c := by
  pointwise [k0_pay1, hOps, Cert.hOf]

/-- Its row maximum. -/
theorem top_apply (r : Fin 32768) : k0_pay2 (F := Ideal) x1 x0 x2 x3 x0 x4 x5 (ix2 r (0 : Fin 1)) = Cert.Arrays.top (hOps x0 x1 x2 x3 x4 x5) r := by
  unfold Cert.Arrays.top
  simp only [← h_apply]
  unfold k0_pay2
  generalize k0_pay1 (F := Ideal) x1 x0 x2 x3 x0 x4 x5 = h
  pointwise []
  rfl

/-- The exponent's operations at an element, whatever the constants. -/
theorem exp_ops {s : Shape} (p : FVec Ideal s .f32) (z a b i t o : EReal) (x : s.Idx) :
    select (cmpf (F := Ideal) (φ := .f32) .oeq p (broadcast s z)) (broadcast s z)
      (select (ori (cmpf (F := Ideal) (φ := .f32) .olt (mulf p (broadcast s a)) (broadcast s b)) (cmpf (F := Ideal) (φ := .f32) .oeq (mulf p (broadcast s a)) (broadcast s i)))
        (broadcast s z) (addf (floor (F := Ideal) (φ := .f32) (divf (log (mulf p (broadcast s a))) (log (broadcast s t)))) (broadcast s o))) x =
      Scalar.select (Ideal.cmp .oeq (p x) z) z (Scalar.select (IntOp.ori (Ideal.cmp .olt (p x * a) b) (Ideal.cmp .oeq (p x * a) i)) z
        (Ideal.liftRound Int.floor (Ideal.div (Ideal.log (p x * a)) (Ideal.log t)) + o)) := rfl

/-- The exponent. -/
theorem exp_apply (r : Fin 32768) :
    k0_pay6 (F := Ideal) (k0_pay2 x1 x0 x2 x3 x0 x4 x5) (k0_pay4 (F := Ideal) x1 x0 x2 x3 x0 x4 x5) (k0_pay5 (F := Ideal) x1 x0 x2 x3 x0 x4 x5) (ix2 r (0 : Fin 1)) =
      Cert.Scale.rExp (Cert.Arrays.top (hOps x0 x1 x2 x3 x4 x5) r) (Cert.Arrays.top (hOps x0 x1 x2 x3 x4 x5) r * Ideal.ofBits .f32 0x3B124925#32) := by
  rw [← top_apply]
  generalize hp : k0_pay2 (F := Ideal) x1 x0 x2 x3 x0 x4 x5 = p
  simp only [k0_pay6, k0_pay5, k0_pay4, k0_pay3, hp]
  clear hp
  exact exp_ops p _ _ _ _ _ _ _

/-- The power of two's operations at an element, whatever the constants. -/
theorem ldexp_ops {s : Shape} (e : FVec Ideal s .f32) (u v l z : EReal) (x : s.Idx) :
    select (cmpf (F := Ideal) (φ := .f32) .ogt e (broadcast s u)) (broadcast s v)
      (select (cmpf (F := Ideal) (φ := .f32) .olt e (broadcast s l)) (broadcast s z) (exp2 (F := Ideal) (φ := .f32) e)) x =
      Scalar.select (Ideal.cmp .ogt (e x) u) v (Scalar.select (Ideal.cmp .olt (e x) l) z (Ideal.exp2 (e x))) := rfl

/-- So the reference's power of two at an element. -/
theorem ldexp_vec {s : Shape} (e : FVec Ideal s .f32) (x : s.Idx) :
    select (cmpf (F := Ideal) (φ := .f32) .ogt e (broadcast s (FloatOps.ofBits (F := Ideal) .f32 0x42FE0000#32))) (broadcast s (FloatOps.ofBits (F := Ideal) .f32 0x7F800000#32))
      (select (cmpf (F := Ideal) (φ := .f32) .olt e (broadcast s (FloatOps.ofBits (F := Ideal) .f32 0xC2FC0000#32))) (broadcast s (FloatOps.ofBits (F := Ideal) .f32 0x00000000#32))
        (exp2 (F := Ideal) (φ := .f32) e)) x = Cert.Scale.rLdexp (e x) := ldexp_ops e _ _ _ _ x

/-- A difference from a constant at an element. -/
theorem neg_vec {s : Shape} (z : EReal) (e : FVec Ideal s .f32) (x : s.Idx) : subf (F := Ideal) (φ := .f32) (broadcast s z) e x = z - e x := rfl

/-- The codes. -/
theorem codes_apply (r : Fin 32768) (c : Fin 3584) :
    k0_pay7 (F := Ideal) (k0_pay1 x1 x0 x2 x3 x0 x4 x5) (k0_pay2 x1 x0 x2 x3 x0 x4 x5) (k0_pay4 (F := Ideal) x1 x0 x2 x3 x0 x4 x5) (k0_pay5 (F := Ideal) x1 x0 x2 x3 x0 x4 x5) (ix2 r c) =
      rCode (hOps x0 x1 x2 x3 x4 x5) r c := by
  unfold rCode
  rw [← exp_apply, ← h_apply]
  generalize k0_pay1 (F := Ideal) x1 x0 x2 x3 x0 x4 x5 = h
  simp only [k0_pay7]
  generalize k0_pay6 (F := Ideal) _ _ _ = e
  generalize hg : select (cmpf (F := Ideal) (φ := .f32) .ogt (subf _ e) _) _ _ = g
  have hv : g (ix2 r (0 : Fin 1)) = Cert.Scale.rLdexp (Ideal.ofBits .f32 0x00000000#32 - e (ix2 r (0 : Fin 1))) := by
    rw [← hg]
    exact (ldexp_vec _ _).trans (congrArg Cert.Scale.rLdexp (neg_vec _ e _))
  rw [← hv]
  clear hv hg
  pointwise []

/-- The scales. -/
theorem scales_apply (a : Fin 128) (b : Fin 2) (c : Fin 128) :
    k0_pay8 (F := Ideal) (k0_pay2 x1 x0 x2 x3 x0 x4 x5) (k0_pay4 (F := Ideal) x1 x0 x2 x3 x0 x4 x5) (k0_pay5 (F := Ideal) x1 x0 x2 x3 x0 x4 x5) (ix3 a b c) =
      rScale (hOps x0 x1 x2 x3 x4 x5) (Cert.Arrays.token a b c) := by
  unfold rScale
  rw [← exp_apply]
  simp only [k0_pay8]
  generalize k0_pay6 (F := Ideal) _ _ _ = e
  generalize hg : select (cmpf (F := Ideal) (φ := .f32) .ogt e _) _ _ = g
  have hv : g (ix2 (Cert.Arrays.token a b c) (0 : Fin 1)) = Cert.Scale.rLdexp (e (ix2 (Cert.Arrays.token a b c) (0 : Fin 1))) := by
    rw [← hg]
    exact ldexp_vec _ _
  rw [← hv]
  clear hv hg
  pointwise [Cert.Arrays.token]
  refine congrArg (fun k => g (ix2 k (0 : Fin 1))) (Fin.ext ?_)
  change a.val * 256 + b.val * 128 + c.val = 256 * a.val + 128 * b.val + c.val
  omega

end Payloads

/-! ## The arrays -/

variable (m : (ℓ : Loc nD τ sig) → Buf (Elt Ideal) ℓ)

/-- Every window holds its whole array. -/
theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0, 0] :=
  (by decide +kernel : ∀ t : Fin grid0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![0, 0, 0])

/-- `h` of the arguments in memory. -/
def hArg (c : Dev nD) : Fin 32768 → Fin 3584 → EReal :=
  Cert.Arrays.h (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The blocks' `h` is that of the arguments. -/
theorem hOps_blk (c : Dev nD) (t : Fin cfg0.N) :
    hOps (iblk m c 0 t) (iblk m c 1 t) (iblk m c 2 t) (iblk m c 3 t) (iblk m c 4 t) (iblk m c 5 t) = hArg m c := by
  funext r j
  pointwise [hOps, hArg, Cert.Arrays.h, Cert.hOf]
  blk_point [iblk, V, idx t]

/-- A row's greatest absolute value is not negative. -/
theorem top_nonneg (h : Fin 32768 → Fin 3584 → EReal) (r : Fin 32768) : 0 ≤ Cert.Arrays.top h r := by
  have key : 0 ≤ max (h r 0) (-h r 0) := by
    rcases le_total 0 (h r 0) with h0 | h0
    · exact le_max_of_le_left h0
    · exact le_max_of_le_right (EReal.neg_nonneg.mpr h0)
  exact (Finset.le_fold_max _).mpr (Or.inr ⟨0, Finset.mem_univ _, key⟩)

/-- The reference's codes are the kernel's. -/
theorem rCode_eq (h : Fin 32768 → Fin 3584 → EReal) (r : Fin 32768) (c : Fin 3584) : rCode h r c = Cert.Arrays.kCode h r c := by
  unfold rCode Cert.Arrays.kCode
  rw [(Cert.Scale.scales_eq _ (top_nonneg h r)).2]

/-- The reference's scales are the kernel's. -/
theorem rScale_eq (h : Fin 32768 → Fin 3584 → EReal) (r : Fin 32768) :
    rScale h r = Cert.Scale.kScale (Cert.Arrays.top h r * Ideal.ofBits .f32 0x3B124925#32) :=
  (Cert.Scale.scales_eq _ (top_nonneg h r)).1.symm

/-- Where element `y` of the codes' block stands in the array. -/
theorem emb_codes (t : Fin cfg0.N) (y : S32768x3584.Idx) : (show S32768x3584.Idx from (win0_6.blk t).view.emb y) = y := by
  blk_ext [idx t]

/-- Where element `y` of the scales' block stands in the array. -/
theorem emb_scales (t : Fin cfg0.N) (y : S128x2x128.Idx) : (show S128x2x128.Idx from (win0_7.blk t).view.emb y) = y := by
  blk_ext [idx t]

section Whole

variable (x0 : FVec Ideal S32768x2304 .fp8e4m3) (x1 : FVec Ideal S32768x1 .f32) (x2 : FVec Ideal S2304x3584 .fp8e4m3)
  (x3 : FVec Ideal S1x3584 .f32) (x4 : FVec Ideal S2304x3584 .fp8e4m3) (x5 : FVec Ideal S1x3584 .f32)

/-- The codes stored are the array of codes. -/
theorem codes_whole (y : S32768x3584.Idx) :
    k0_pay7 (F := Ideal) (k0_pay1 x1 x0 x2 x3 x0 x4 x5) (k0_pay2 x1 x0 x2 x3 x0 x4 x5) (k0_pay4 (F := Ideal) x1 x0 x2 x3 x0 x4 x5) (k0_pay5 (F := Ideal) x1 x0 x2 x3 x0 x4 x5) y =
      Cert.Arrays.codes (hOps x0 x1 x2 x3 x4 x5) y := by
  idx_vars y
  exact (codes_apply x0 x1 x2 x3 x4 x5 y0 y1).trans (rCode_eq _ _ _)

/-- The scales stored are the array of scales. -/
theorem scales_whole (y : S128x2x128.Idx) :
    k0_pay8 (F := Ideal) (k0_pay2 x1 x0 x2 x3 x0 x4 x5) (k0_pay4 (F := Ideal) x1 x0 x2 x3 x0 x4 x5) (k0_pay5 (F := Ideal) x1 x0 x2 x3 x0 x4 x5) y =
      Cert.Arrays.scales (hOps x0 x1 x2 x3 x4 x5) y := by
  idx_vars y
  exact (scales_apply x0 x1 x2 x3 x4 x5 y0 y1 y2).trans (rScale_eq _ _)

end Whole

/-- The first result array after the run. -/
theorem codes_array (c : Dev nD) : (dats m 0 c).arrAt 6 cfg0.N = Cert.Arrays.codes (hArg m c) := by
  refine (dats m 0 c).arrAt_eq_of_covers 6 _ (by decide +kernel) fun t _ y => ?_
  blk_simp
  rw [after0_6]
  unfold_out out0_6
  frame_out
  refine Eq.trans ?_ (congrArg (Cert.Arrays.codes (hArg m c)) (emb_codes t y).symm)
  rw [← hOps_blk m c t]
  exact codes_whole _ _ _ _ _ _ y

/-- The second result array after the run. -/
theorem scales_array (c : Dev nD) : (dats m 0 c).arrAt 7 cfg0.N = Cert.Arrays.scales (hArg m c) := by
  refine (dats m 0 c).arrAt_eq_of_covers 7 _ (by decide +kernel) fun t _ y => ?_
  blk_simp
  rw [after0_7]
  unfold_out out0_7
  frame_out
  refine Eq.trans ?_ (congrArg (Cert.Arrays.scales (hArg m c)) (emb_scales t y).symm)
  rw [← hOps_blk m c t]
  exact scales_whole _ _ _ _ _ _ y

end Cert.ReferenceIdeal.Arrays

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Array
public import proofs.«01_k».proof.Proof.RefArray
public import Idealize.ShloMosaic.Adequacy
public import Idealize.ShloMosaic.Init

@[expose] public section

noncomputable section

namespace Cert.Proof

open Idealize.ShloMosaic Idealize.SL.Sem Cert.Kernel

/-- The reference's run: its result arrays are the codes and the scales of its arguments' `h`, and its arguments are kept. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_v4_0) = Cert.Arrays.codes (Cert.ReferenceIdeal.Arrays.hArg m c)
        ∧ r.2.mem ((c.tc : Thread Cert.ReferenceIdeal.nD Cert.ReferenceIdeal.τ).loc Cert.ReferenceIdeal.main_v4_1) = Cert.Arrays.scales (Cert.ReferenceIdeal.Arrays.hArg m c))
      ∧ ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  θ_run_and ((θ_run (Cert.ReferenceIdeal.defs (F := Ideal)) _ _).mono
    (fun _ h c => And.intro (((h c).1 6).trans (Cert.ReferenceIdeal.Arrays.codes_array m c)) (((h c).1 7).trans (Cert.ReferenceIdeal.Arrays.scales_array m c)))
    (Cert.ReferenceIdeal.Gen.run_main m g)) (Cert.ReferenceIdeal.Gen.unchanged m g)

/-- Arguments that agree have the same `h`. -/
theorem h_agree {a0 b0 : FVec Ideal Cert.KernelIdeal.S8x4096x2304 .fp8e4m3} {a1 b1 : FVec Ideal Cert.KernelIdeal.S8x4096x1 .f32}
    {a2 b2 : FVec Ideal Cert.KernelIdeal.S2304x3584 .fp8e4m3} {a3 b3 : FVec Ideal Cert.KernelIdeal.S3584 .f32}
    {a4 b4 : FVec Ideal Cert.KernelIdeal.S2304x3584 .fp8e4m3} {a5 b5 : FVec Ideal Cert.KernelIdeal.S3584 .f32}
    (e0 : a0 = b0) (e1 : a1 = b1) (e2 : a2 = b2) (e3 : a3 = b3) (e4 : a4 = b4) (e5 : a5 = b5) :
    Cert.Arrays.h a0 a1 a2 a3 a4 a5 = Cert.Arrays.h b0 b1 b2 b3 b4 b5 := by
  rw [e0, e1, e2, e3, e4, e5]

/-- The kernel and the reference at the extended reals: equal codes and equal scales. -/
theorem algebraic_claim :
    algebraic_KernelIdeal_ReferenceIdeal (hKernelIdeal := Cert.KernelIdeal.Gen.facts) (hReferenceIdeal := Cert.ReferenceIdeal.Gen.facts) := by
  intro m g m' g' _ hagree
  have hh : ∀ c : Dev Cert.KernelIdeal.nD, Cert.ReferenceIdeal.Arrays.hArg m' c = Cert.KernelIdeal.Arrays.hArg m c := fun c =>
    have ⟨e0, e1, e2, e3, e4, e5⟩ := hagree c
    h_agree e0 e1 e2 e3 e4 e5
  refine ⟨fun c => Cert.Arrays.codes (Cert.KernelIdeal.Arrays.hArg m c), fun c => Cert.Arrays.scales (Cert.KernelIdeal.Arrays.hArg m c), ?_, ?_⟩
  · exact (θ_run _ _ _).mono (fun _ h c => have ⟨h6, h7, hk⟩ := h c
      ⟨h6.trans (Cert.KernelIdeal.Arrays.codes_array m c), h7.trans (Cert.KernelIdeal.Arrays.scales_array m c), hk⟩)
      (Cert.KernelIdeal.Value.run_blocks m g)
  · exact (θ_run _ _ _).mono (fun _ h c =>
      ⟨(h.1 c).1.trans (congrArg Cert.Arrays.codes (hh c)), (h.1 c).2.trans (congrArg Cert.Arrays.scales (hh c)), h.2 c⟩)
      (reference_run m' g')

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic_claim⟩

end Cert.Proof

end
